-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S96x1x16384 : Shape := ⟨3, ![96, 1, 16384]⟩
abbrev S8192x4608 : Shape := ⟨2, ![8192, 4608]⟩
abbrev S128x4608 : Shape := ⟨2, ![128, 4608]⟩
abbrev S96x16384 : Shape := ⟨2, ![96, 16384]⟩
abbrev S96x4608 : Shape := ⟨2, ![96, 4608]⟩
abbrev S8192x512 : Shape := ⟨2, ![8192, 512]⟩
abbrev S128x512 : Shape := ⟨2, ![128, 512]⟩
abbrev S96x512 : Shape := ⟨2, ![96, 512]⟩
abbrev S256x512 : Shape := ⟨2, ![256, 512]⟩
abbrev S256x1x512 : Shape := ⟨3, ![256, 1, 512]⟩
abbrev S256x2x512 : Shape := ⟨3, ![256, 2, 512]⟩
abbrev S512x512 : Shape := ⟨2, ![512, 512]⟩
abbrev S4x512 : Shape := ⟨2, ![4, 512]⟩
abbrev S4x128x512 : Shape := ⟨3, ![4, 128, 512]⟩
abbrev S4x1x512 : Shape := ⟨3, ![4, 1, 512]⟩
abbrev S96x1x4608 : Shape := ⟨3, ![96, 1, 4608]⟩

abbrev nBuf : Space → Nat
  | .hbm => 7
  | .vmem => 9
  | .smem => 0
  | _ => 0

abbrev bufTy : (tb : Table) → Fin (tcTables nBuf tb) → BufTy
  | .hbm, ⟨0, _⟩ => ⟨S96x1x16384, .bf16⟩
  | .hbm, ⟨1, _⟩ => ⟨S8192x4608, .i8⟩
  | .hbm, ⟨2, _⟩ => ⟨S128x4608, .bf16⟩
  | .hbm, ⟨3, _⟩ => ⟨S128x4608, .i8⟩
  | .hbm, ⟨4, _⟩ => ⟨S96x16384, .bf16⟩
  | .hbm, ⟨5, _⟩ => ⟨S96x4608, .bf16⟩
  | .hbm, ⟨6, _⟩ => ⟨S96x1x4608, .bf16⟩
  | .local _ .vmem, ⟨0, _⟩ => ⟨S96x16384, .bf16⟩
  | .local _ .vmem, ⟨1, _⟩ => ⟨S8192x512, .i8⟩
  | .local _ .vmem, ⟨2, _⟩ => ⟨S8192x512, .i8⟩
  | .local _ .vmem, ⟨3, _⟩ => ⟨S128x512, .bf16⟩
  | .local _ .vmem, ⟨4, _⟩ => ⟨S128x512, .bf16⟩
  | .local _ .vmem, ⟨5, _⟩ => ⟨S128x512, .i8⟩
  | .local _ .vmem, ⟨6, _⟩ => ⟨S128x512, .i8⟩
  | .local _ .vmem, ⟨7, _⟩ => ⟨S96x512, .bf16⟩
  | .local _ .vmem, ⟨8, _⟩ => ⟨S96x512, .bf16⟩
  | _, _ => ⟨S96x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S96x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S96x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S96x1x16384 : Shape := ⟨3, ![96, 1, 16384]⟩
abbrev S8192x4608 : Shape := ⟨2, ![8192, 4608]⟩
abbrev S128x4608 : Shape := ⟨2, ![128, 4608]⟩
abbrev S_ : Shape := ⟨0, ![]⟩
abbrev S8192x1x4608 : Shape := ⟨3, ![8192, 1, 4608]⟩
abbrev S8192x2x4608 : Shape := ⟨3, ![8192, 2, 4608]⟩
abbrev S128x128x4608 : Shape := ⟨3, ![128, 128, 4608]⟩
abbrev S128x1x4608 : Shape := ⟨3, ![128, 1, 4608]⟩
abbrev S16384x4608 : Shape := ⟨2, ![16384, 4608]⟩
abbrev S96x1x4608 : Shape := ⟨3, ![96, 1, 4608]⟩

abbrev nBuf : Space → Nat
  | .hbm => 27
  | .vmem => 0
  | .smem => 0
  | _ => 0

abbrev bufTy : (tb : Table) → Fin (tcTables nBuf tb) → BufTy
  | .hbm, ⟨0, _⟩ => ⟨S96x1x16384, .bf16⟩
  | .hbm, ⟨1, _⟩ => ⟨S8192x4608, .i8⟩
  | .hbm, ⟨2, _⟩ => ⟨S128x4608, .bf16⟩
  | .hbm, ⟨3, _⟩ => ⟨S128x4608, .i8⟩
  | .hbm, ⟨4, _⟩ => ⟨S8192x4608, .i32⟩
  | .hbm, ⟨5, _⟩ => ⟨S_, .i32⟩
  | .hbm, ⟨6, _⟩ => ⟨S8192x4608, .i32⟩
  | .hbm, ⟨7, _⟩ => ⟨S8192x4608, .i32⟩
  | .hbm, ⟨8, _⟩ => ⟨S_, .i32⟩
  | .hbm, ⟨9, _⟩ => ⟨S8192x4608, .i32⟩
  | .hbm, ⟨10, _⟩ => ⟨S8192x4608, .i32⟩
  | .hbm, ⟨11, _⟩ => ⟨S8192x1x4608, .i32⟩
  | .hbm, ⟨12, _⟩ => ⟨S8192x1x4608, .i32⟩
  | .hbm, ⟨13, _⟩ => ⟨S8192x2x4608, .i32⟩
  | .hbm, ⟨14, _⟩ => ⟨S128x128x4608, .i32⟩
  | .hbm, ⟨15, _⟩ => ⟨S128x128x4608, .bf16⟩
  | .hbm, ⟨16, _⟩ => ⟨S128x4608, .i32⟩
  | .hbm, ⟨17, _⟩ => ⟨S128x4608, .bf16⟩
  | .hbm, ⟨18, _⟩ => ⟨S128x1x4608, .bf16⟩
  | .hbm, ⟨19, _⟩ => ⟨S128x128x4608, .bf16⟩
  | .hbm, ⟨20, _⟩ => ⟨S128x128x4608, .bf16⟩
  | .hbm, ⟨21, _⟩ => ⟨S128x1x4608, .bf16⟩
  | .hbm, ⟨22, _⟩ => ⟨S128x128x4608, .bf16⟩
  | .hbm, ⟨23, _⟩ => ⟨S128x128x4608, .bf16⟩
  | .hbm, ⟨24, _⟩ => ⟨S16384x4608, .bf16⟩
  | .hbm, ⟨25, _⟩ => ⟨S96x1x4608, .f32⟩
  | .hbm, ⟨26, _⟩ => ⟨S96x1x4608, .bf16⟩
  | _, _ => ⟨S96x1x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Proof.Chunk.lean ====
/-
  The kernel's body, chunk by chunk. The body is unrolled over 32 chunks of 512 weight rows, and the generated
  payloads cut that unrolled text at arbitrary places. Here one chunk is stated once (`step`: unpack, dequantize,
  multiply, add), the body's accumulator after `n` chunks is stated by recursion on `n` (`acc`), and what the body
  leaves in the output block is shown to be the rounding of `acc` after all 32 chunks (`out_eq`), at any float values.
-/
module

public import proofs.«01_k».proof.Proof.Gen.KernelIdeal.Frame
public import Idealize.ShloMosaic.Lib.Pipeline.Value

@[expose] public section

set_option maxRecDepth 16384

noncomputable section

namespace Cert.KernelIdeal.Chunk

open Cert.KernelIdeal Cert.KernelIdeal.Gen Idealize.ShloMosaic

variable {F : FTy → Type} [FloatOps F]

/-- The packed bytes of one chunk, each widened to a 32-bit word. -/
def words (p : Vec F S256x512 .i8) : IVec S256x512 32 := extui 32 p natLt_8_32

/-- The low nibbles and the high nibbles of the words, put on alternate rows: row `2 r` is the low nibble of byte row
    `r` and row `2 r + 1` its high nibble. -/
def nibbles (w : IVec S256x512 32) : IVec S512x512 32 :=
  shapeCast S512x512 (concatenate S256x2x512 1
    [⟨S256x1x512, shapeCast S256x1x512 (andi w (broadcast S256x512 15#32)) shapeCasts_S256x512_S256x1x512⟩,
     ⟨S256x1x512, shapeCast S256x1x512 (shrsi w (broadcast S256x512 4#32)) shapeCasts_S256x512_S256x1x512⟩]
    concatenates_S256x1x512_S256x1x512_S256x2x512_d1) shapeCasts_S256x2x512_S512x512

/-- The dequantized weights of one chunk: each code minus its group's zero point, times its group's scale, a group being
    128 consecutive rows. -/
def weights (p : Vec F S256x512 .i8) (s : Vec F S4x512 .bf16) (z : Vec F S4x512 .i8) : FVec F S512x512 .bf16 :=
  shapeCast S512x512
    (mulf
      (subf (shapeCast S4x128x512 (sitofp .bf16 (nibbles (words p)) : FVec F S512x512 .bf16) shapeCasts_S512x512_S4x128x512)
        (broadcastTo S4x128x512 (shapeCast S4x1x512 (uitofp .bf16 z : FVec F S4x512 .bf16) shapeCasts_S4x512_S4x1x512)
          broadcasts_S4x1x512_S4x128x512))
      (broadcastTo S4x128x512 (shapeCast S4x1x512 s shapeCasts_S4x512_S4x1x512) broadcasts_S4x1x512_S4x128x512))
    shapeCasts_S4x128x512_S512x512

/-- One chunk of the body: the accumulator plus the product of the chunk's activations and dequantized weights. -/
def step (a : FVec F S96x512 .f32) (p : Vec F S256x512 .i8) (s : Vec F S4x512 .bf16) (z : Vec F S4x512 .i8)
    (x : Vec F S96x512 .bf16) : FVec F S96x512 .f32 :=
  addf a (matmul dot_S96x512_S512x512_S96x512_1_0_0_1_n_n none (shapeCast S96x512 x shapeCasts_S96x512_S96x512)
    (weights p s z) (constant S96x512 .f32 0x00000000#32))

/-- Chunk `n`'s rows of the packed block: 256 rows of bytes from row `256 n`. -/
abbrev packedRect (n : ℕ) (h : n < 32) : Rect S8192x512 :=
  Rect.unit (s := S8192x512) ![256 * n, 0] S256x512.size
    (fun a => by fin_cases a <;> simp [S8192x512, S256x512] <;> omega)

/-- Chunk `n`'s rows of a table of groups (scales or zero points): 4 rows from row `4 n`. -/
abbrev tableRect (n : ℕ) (h : n < 32) : Rect S128x512 :=
  Rect.unit (s := S128x512) ![4 * n, 0] S4x512.size
    (fun a => by fin_cases a <;> simp [S128x512, S4x512] <;> omega)

/-- Chunk `n`'s columns of the activations: 512 columns from column `512 n`. -/
abbrev actRect (n : ℕ) (h : n < 32) : Rect S96x16384 :=
  Rect.unit (s := S96x16384) ![0, 512 * n] S96x512.size
    (fun a => by fin_cases a <;> simp [S96x16384, S96x512] <;> omega)

/-- The accumulator after the first `n` chunks, from the four input blocks. -/
def acc (x0 : Vec F S96x16384 .bf16) (x1 : Vec F S8192x512 .i8) (x2 : Vec F S128x512 .bf16) (x3 : Vec F S128x512 .i8) :
    (n : ℕ) → n ≤ 32 → FVec F S96x512 .f32
  | 0, _ => broadcast S96x512 (Scalar.ofBits .f32 0x00000000#32 : F .f32)
  | n + 1, h => step (acc x0 x1 x2 x3 n (Nat.le_of_succ_le h)) (View.ld x1 (packedRect n h)) (View.ld x2 (tableRect n h))
      (View.ld x3 (tableRect n h)) (View.ld x0 (actRect n h))

/-- What the body leaves in the output block is the accumulator after all 32 chunks, rounded. -/
theorem out_eq (x0 : Vec F S96x16384 .bf16) (x1 : Vec F S8192x512 .i8) (x2 : Vec F S128x512 .bf16)
    (x3 : Vec F S128x512 .i8) :
    out0_4 x0 x1 x2 x3 = truncf .bf16 (acc x0 x1 x2 x3 32 le_rfl) bitsLt_bf16_f32 := by
  unfold out0_4
  rw [View.canon_unit_zero (show (![0, 0] : Fin 2 → Nat) = fun _ => 0 from funext fun a => by fin_cases a <;> rfl)]
  rfl

end Cert.KernelIdeal.Chunk

end
-- ==== Proof.Weight.lean ====
/-
  The mathematics both programs compute, over the extended reals, with no program in sight: one dequantized weight
  (`dequant`) and one entry of the result (`entry`), the sum over all 16384 input features of activation times weight.
-/
module

public import Idealize.ShloMosaic.Lib.Pointwise

@[expose] public section

noncomputable section

namespace Cert.Proof

open Idealize.ShloMosaic

/-- The 4-bit code of weight row `k` in the byte `b` holding it and its neighbour: the low nibble for an even row, the
    high nibble for an odd one. -/
def code (k : ℕ) (b : BitVec 8) : BitVec 32 :=
  if k % 2 < 1 then IntOp.andi (b.setWidth 32) 15#32 else IntOp.shrsi .vector (b.setWidth 32) 4#32

/-- One dequantized weight: its code minus its group's zero point, times its group's scale. -/
def dequant (k : ℕ) (b z : BitVec 8) (s : EReal) : EReal := ((((code k b).toInt : ℝ) : EReal) - ((z.toNat : ℝ) : EReal)) * s

/-- One entry of the result, from one row `x` of activations and one output column's packed bytes `w` (two rows to a
    byte), scales `s` and zero points `z` (one of each for 128 rows). -/
def entry (x : Fin 16384 → EReal) (w : Fin 8192 → BitVec 8) (s : Fin 128 → EReal) (z : Fin 128 → BitVec 8) : EReal :=
  ∑ k : Fin 16384, x k * dequant k (w ⟨k / 2, by omega⟩) (z ⟨k / 128, by omega⟩) (s ⟨k / 128, by omega⟩)

/-- An entry's sum, cut in 32 chunks of 512 input features: chunk `c` reads the rows from `512 c`, whose bytes are
    those from row `256 c` and whose groups those from `4 c`. -/
theorem entry_eq_chunks (x : Fin 16384 → EReal) (w : Fin 8192 → BitVec 8) (s : Fin 128 → EReal) (z : Fin 128 → BitVec 8) :
    entry x w s z = ∑ c : Fin 32, ∑ k : Fin 512, x ⟨512 * c + k, by omega⟩ *
      dequant k (w ⟨256 * c + k / 2, by omega⟩) (z ⟨4 * c + k / 128, by omega⟩) (s ⟨4 * c + k / 128, by omega⟩) := by
  unfold entry
  rw [Fin.sum_univ_tiles 32 512 rfl]
  refine Finset.sum_congr rfl fun c _ => Finset.sum_congr rfl fun k _ => ?_
  have hd (b b' : BitVec 8) (a : EReal) : dequant (c.val * 512 + k.val) b b' a = dequant k b b' a := by
    unfold dequant code
    rw [show (c.val * 512 + k.val) % 2 = k.val % 2 by omega]
  rw [hd]
  have hx (a b : Fin 16384) (h : a.val = b.val) : x a = x b := congrArg x (Fin.ext h)
  have hw (a b : Fin 8192) (h : a.val = b.val) : w a = w b := congrArg w (Fin.ext h)
  have hz (a b : Fin 128) (h : a.val = b.val) : z a = z b := congrArg z (Fin.ext h)
  have hs (a b : Fin 128) (h : a.val = b.val) : s a = s b := congrArg s (Fin.ext h)
  rw [hx _ ⟨512 * c + k, by omega⟩ (by dsimp only; omega), hw _ ⟨256 * c + k / 2, by omega⟩ (by dsimp only; omega),
    hz _ ⟨4 * c + k / 128, by omega⟩ (by dsimp only; omega), hs _ ⟨4 * c + k / 128, by omega⟩ (by dsimp only; omega)]

end Cert.Proof

end
-- ==== Proof.ChunkValue.lean ====
/-
  What one block of the kernel computes, over the extended reals: the chunk of `Chunk.lean` read at an index, and by
  induction on the number of chunks the whole accumulator, so that entry (r, l) of the output block is `entry` of row `r`
  of the activations and column `l` of the three weight blocks (`out_apply`).
-/
module

public import proofs.«01_k».proof.Proof.Chunk
public import proofs.«01_k».proof.Proof.Weight
public import Idealize.ShloMosaic.Lib.Pointwise
public import Idealize.ShloMosaic.Lib.MatmulPlain

@[expose] public section

set_option maxRecDepth 16384

noncomputable section

namespace Cert.KernelIdeal.Chunk

open Cert.KernelIdeal Cert.KernelIdeal.Gen Idealize.ShloMosaic Cert.Proof

/-- Row `k`, column `l` of a chunk's dequantized weights is the dequantized weight of the byte in row `k / 2` with the
    scale and zero point of group `k / 128`. -/
theorem weights_apply (p : Vec Ideal S256x512 .i8) (s : Vec Ideal S4x512 .bf16) (z : Vec Ideal S4x512 .i8) (k l : Fin 512) :
    weights p s z (ix2 k l) = dequant k (p (ix2 ⟨k / 2, by omega⟩ l)) (z (ix2 ⟨k / 128, by omega⟩ l))
      (s (ix2 ⟨k / 128, by omega⟩ l)) := by
  pointwise [weights, nibbles, words]
  rfl

/-- One chunk adds to each entry of the accumulator the 512 products of its activations and weights. -/
theorem step_apply (a : FVec Ideal S96x512 .f32) (p : Vec Ideal S256x512 .i8) (s : Vec Ideal S4x512 .bf16)
    (z : Vec Ideal S4x512 .i8) (x : Vec Ideal S96x512 .bf16) (r : Fin 96) (l : Fin 512) :
    step a p s z x (ix2 r l) = a (ix2 r l) + ∑ k : Fin 512, x (ix2 r k) * weights p s z (ix2 k l) := by
  pointwise [step]

/-- After `n` chunks an entry of the accumulator is the sum of the products of those chunks. -/
theorem acc_apply (x0 : Vec Ideal S96x16384 .bf16) (x1 : Vec Ideal S8192x512 .i8) (x2 : Vec Ideal S128x512 .bf16)
    (x3 : Vec Ideal S128x512 .i8) (r : Fin 96) (l : Fin 512) (n : ℕ) (h : n ≤ 32) :
    acc x0 x1 x2 x3 n h (ix2 r l) = ∑ c : Fin n, ∑ k : Fin 512, x0 (ix2 r ⟨512 * c + k, by omega⟩) *
      dequant k (x1 (ix2 ⟨256 * c + k / 2, by omega⟩ l)) (x3 (ix2 ⟨4 * c + k / 128, by omega⟩ l))
        (x2 (ix2 ⟨4 * c + k / 128, by omega⟩ l)) := by
  induction n with
  | zero =>
    pointwise [acc]
    exact Finset.sum_empty.symm
  | succ n ih =>
    rw [acc, step_apply, ih]
    refine Eq.trans ?_ (Fin.sum_univ_castSucc _).symm
    refine Ideal.add_congr rfl (Finset.sum_congr rfl fun k _ => ?_)
    rw [weights_apply]
    pointwise
    rfl

/-- Entry (r, l) of the output block is `entry` of row `r` of the activations and column `l` of the weight blocks. -/
theorem out_apply (x0 : Vec Ideal S96x16384 .bf16) (x1 : Vec Ideal S8192x512 .i8) (x2 : Vec Ideal S128x512 .bf16)
    (x3 : Vec Ideal S128x512 .i8) (r : Fin 96) (l : Fin 512) :
    out0_4 x0 x1 x2 x3 (ix2 r l) = entry (fun k => x0 (ix2 r k)) (fun i => x1 (ix2 i l)) (fun g => x2 (ix2 g l))
      (fun g => x3 (ix2 g l)) := by
  rw [out_eq, entry_eq_chunks]
  exact acc_apply x0 x1 x2 x3 r l 32 le_rfl

end Cert.KernelIdeal.Chunk

end
-- ==== Proof.Array.lean ====
/-
  What the kernel's result array holds at the end, over the extended reals. The nine grid points write the nine blocks of
  512 columns; each block is the matching block of one function of the whole input arrays (`whole`), the blocks cover the
  array, and the last host line reshapes it, so a run ends with the result as `whole` of the arguments (`run`).
-/
module

public import proofs.«01_k».proof.Proof.ChunkValue
public import Idealize.ShloMosaic.Lib.StableHlo.Run

@[expose] public section

set_option maxRecDepth 16384

noncomputable section

namespace Cert.KernelIdeal.Array

open Cert.KernelIdeal Cert.KernelIdeal.Gen Idealize.ShloMosaic Idealize.ShloMosaic.TcCoe Idealize.SL.Sem Cert.Proof
open Idealize.ShloMosaic.Pipeline (Dat)

/-- The whole result as a matrix, from the activations as a matrix and the three weight arrays. -/
def whole (x : FVec Ideal S96x16384 .bf16) (w : IVec S8192x4608 8) (s : FVec Ideal S128x4608 .bf16)
    (z : IVec S128x4608 8) : FVec Ideal S96x4608 .bf16 := fun i =>
  entry (fun k => x (ix2 (i 0) k)) (fun j => w (ix2 j (i 1))) (fun g => s (ix2 g (i 1))) (fun g => z (ix2 g (i 1)))

variable (m : (ℓ : Loc nD τ sig) → Buf (Elt Ideal) ℓ) (ρ : Dev nD → PrngReg)

/-- `whole` of what the region finds in its four input arrays. -/
abbrev final (c : Dev nD) : Buf (Elt Ideal) ((c : Thread nD τ).loc main_v1) :=
  whole (V m c main_v0) (V m c main_arg1) (V m c main_arg2) (V m c main_arg3)

/-- Where each window's block lies at point `t`: the activations' is the whole array, the others' start at column `512 t`. -/
theorem offsets (t : Fin grid0.N) :
    (win0_0.index t 0 * win0_0.size 0 = 0 ∧ win0_0.index t 1 * win0_0.size 1 = 0)
    ∧ (win0_1.index t 0 * win0_1.size 0 = 0 ∧ win0_1.index t 1 * win0_1.size 1 = 512 * t.val)
    ∧ (win0_2.index t 0 * win0_2.size 0 = 0 ∧ win0_2.index t 1 * win0_2.size 1 = 512 * t.val)
    ∧ (win0_3.index t 0 * win0_3.size 0 = 0 ∧ win0_3.index t 1 * win0_3.size 1 = 512 * t.val)
    ∧ (win0_4.index t 0 * win0_4.size 0 = 0 ∧ win0_4.index t 1 * win0_4.size 1 = 512 * t.val)
    ∧ (win0_4.xsize (grid0.coords t) 0 = 96 ∧ win0_4.xsize (grid0.coords t) 1 = 512) := by
  revert t; decide +kernel

/-- A grid point is below 9. -/
theorem point_lt (t : Fin grid0.N) : t.val < 9 := N_0 ▸ t.isLt

/-- The activations' block at any point is the whole array. -/
theorem iblk0_apply (c : Dev nD) (t : Fin cfg0.N) (r : Fin 96) (k : Fin 16384) :
    iblk m c 0 t (ix2 r k) = V m c main_v0 (ix2 r k) := by
  obtain ⟨h, -⟩ := offsets t
  refine congrArg (V m c main_v0) (Shape.idx_ext₂ ?_ ?_)
  · show win0_0.index t 0 * win0_0.size 0 + 1 * r.val = r.val
    omega
  · show win0_0.index t 1 * win0_0.size 1 + 1 * k.val = k.val
    omega

/-- The packed bytes' block at point `t`: the columns from `512 t`. -/
theorem iblk1_apply (c : Dev nD) (t : Fin cfg0.N) (k : Fin 8192) (l : Fin 512) (n : Fin 4608) (hn : n.val = 512 * t.val + l.val) :
    iblk m c 1 t (ix2 k l) = V m c main_arg1 (ix2 k n) := by
  obtain ⟨-, h, -⟩ := offsets t
  refine congrArg (V m c main_arg1) (Shape.idx_ext₂ ?_ ?_)
  · show win0_1.index t 0 * win0_1.size 0 + 1 * k.val = k.val
    omega
  · show win0_1.index t 1 * win0_1.size 1 + 1 * l.val = n.val
    omega

/-- The scales' block at point `t`: the columns from `512 t`. -/
theorem iblk2_apply (c : Dev nD) (t : Fin cfg0.N) (g : Fin 128) (l : Fin 512) (n : Fin 4608) (hn : n.val = 512 * t.val + l.val) :
    iblk m c 2 t (ix2 g l) = V m c main_arg2 (ix2 g n) := by
  obtain ⟨-, -, h, -⟩ := offsets t
  refine congrArg (V m c main_arg2) (Shape.idx_ext₂ ?_ ?_)
  · show win0_2.index t 0 * win0_2.size 0 + 1 * g.val = g.val
    omega
  · show win0_2.index t 1 * win0_2.size 1 + 1 * l.val = n.val
    omega

/-- The zero points' block at point `t`: the columns from `512 t`. -/
theorem iblk3_apply (c : Dev nD) (t : Fin cfg0.N) (g : Fin 128) (l : Fin 512) (n : Fin 4608) (hn : n.val = 512 * t.val + l.val) :
    iblk m c 3 t (ix2 g l) = V m c main_arg3 (ix2 g n) := by
  obtain ⟨-, -, -, h, -⟩ := offsets t
  refine congrArg (V m c main_arg3) (Shape.idx_ext₂ ?_ ?_)
  · show win0_3.index t 0 * win0_3.size 0 + 1 * g.val = g.val
    omega
  · show win0_3.index t 1 * win0_3.size 1 + 1 * l.val = n.val
    omega

/-- What point `t` writes back is its block of the whole result. -/
theorem flushed_eq (c : Dev nD) (t : Fin cfg0.N) :
    (dats m 0 c).flushed 4 t = (win0_4.blk t).view.read (Elt Ideal) (final m c) := by
  show (cfg0.win 4).cut (grid0.coords t) ((dats m 0 c).after 4 t) = _
  rw [after0_4]
  obtain ⟨-, -, -, -, ho, -⟩ := offsets t
  have ht := point_lt t
  funext j
  have h0 : (j 0 : ℕ) < 96 := (j 0).isLt
  have h1 : (j 1 : ℕ) < 512 := (j 1).isLt
  have e (g : FVec Ideal S96x4608 .bf16) : (win0_4.blk t).view.read (Elt Ideal) g j
      = g (ix2 ⟨j 0, h0⟩ ⟨512 * t.val + j 1, by omega⟩) := by
    refine congrArg g (Shape.idx_ext₂ ?_ ?_)
    · show win0_4.index t 0 * win0_4.size 0 + 1 * (j 0 : ℕ) = j 0
      omega
    · show win0_4.index t 1 * win0_4.size 1 + 1 * (j 1 : ℕ) = 512 * t.val + j 1
      omega
  rw [e]
  have el : (cfg0.win 4).cut (grid0.coords t) (out0_4 (iblk m c 0 t) (iblk m c 1 t) (iblk m c 2 t) (iblk m c 3 t)) j
      = out0_4 (iblk m c 0 t) (iblk m c 1 t) (iblk m c 2 t) (iblk m c 3 t) (ix2 ⟨j 0, h0⟩ ⟨j 1, h1⟩) :=
    congrArg _ (Shape.idx_ext₂ rfl rfl)
  rw [el]
  refine (Chunk.out_apply _ _ _ _ _ _).trans ?_
  simp only [iblk0_apply m c t, iblk1_apply m c t _ ⟨j 1, h1⟩ ⟨512 * t.val + j 1, by omega⟩ rfl,
    iblk2_apply m c t _ ⟨j 1, h1⟩ ⟨512 * t.val + j 1, by omega⟩ rfl,
    iblk3_apply m c t _ ⟨j 1, h1⟩ ⟨512 * t.val + j 1, by omega⟩ rfl]
  rfl

/-- An index of the result is in point `t`'s block when its column is one of the 512 from `512 t`. -/
theorem mem_blk (t : Fin cfg0.N) (i : S96x4608.Idx) :
    i ∈ ((cfg0.win 4).blk t).view.set ↔ 512 * t.val ≤ (i 1 : ℕ) ∧ (i 1 : ℕ) < 512 * t.val + 512 := by
  show i ∈ ((View.whole main_v1).slice (win0_4.rect t)).set ↔ _
  rw [View.set_slice_whole, Rect.mem_set_unit]
  have h0 : (i 0 : ℕ) < 96 := (i 0).isLt
  obtain ⟨-, -, -, -, ho, hx⟩ := offsets t
  refine ⟨fun h => ?_, fun h a => ?_⟩
  · have := h 1
    change win0_4.index t 1 * win0_4.size 1 ≤ (i 1 : ℕ)
      ∧ (i 1 : ℕ) < win0_4.index t 1 * win0_4.size 1 + win0_4.xsize (grid0.coords t) 1 at this
    omega
  · match a with
    | ⟨0, _⟩ => show win0_4.index t 0 * win0_4.size 0 ≤ (i 0 : ℕ)
                  ∧ (i 0 : ℕ) < win0_4.index t 0 * win0_4.size 0 + win0_4.xsize (grid0.coords t) 0
                omega
    | ⟨1, _⟩ => show win0_4.index t 1 * win0_4.size 1 ≤ (i 1 : ℕ)
                  ∧ (i 1 : ℕ) < win0_4.index t 1 * win0_4.size 1 + win0_4.xsize (grid0.coords t) 1
                omega

/-- Every index of the result is in some point's block, which that point writes back. -/
theorem cover (i : S96x4608.Idx) :
    ∃ t : Fin cfg0.N, (cfg0.win 4).flush t = true ∧ i ∈ ((cfg0.win 4).blk t).view.set := by
  have h1 : (i 1 : ℕ) < 4608 := (i 1).isLt
  have ht : (i 1 : ℕ) / 512 < cfg0.N := by
    show _ < grid0.N
    rw [N_0]; omega
  refine ⟨⟨(i 1 : ℕ) / 512, ht⟩, flush0_4 _, ?_⟩
  rw [mem_blk]
  dsimp only
  omega

/-- So the region leaves its result array at the whole result. -/
theorem final_eq (c : Dev nD) : (dats m 0 c).arrAt 4 cfg0.N = final m c :=
  (dats m 0 c).arrAt_eq_of_cover 4 (final m c) (fun t _ => flushed_eq m c t) cover

/-- The region finds the activations as the first host line left them: reshaped to a matrix. -/
theorem V_main_v0 (c : Dev nD) :
    V m c main_v0 = shapeCast S96x16384 (m ((c : Thread nD τ).loc main_arg0)) shapeCasts_S96x1x16384_S96x16384 := by
  show StableHlo.after hostOps0 _ (Proc.devRef .tc main_v0) = _
  after_results
  rfl

/-- The last host line leaves the result: the region's result array reshaped. -/
theorem tail_main_v2 (c : Dev nD) :
    Pipeline.afterTail₀ cfgs (dats m) 0 (V0 m) [hostOps1] c main_v2
      = shapeCast S96x1x4608 (final m c) shapeCasts_S96x4608_S96x1x4608 := by
  unfold Pipeline.afterTail₀
  show StableHlo.after hostOps1 _ (Proc.devRef .tc main_v2) = _
  after_results
  have e := Pipeline.withArrays_arr spec0 (by decide) c (V0 m c) (fun w => (dats m 0 c).arrAt w cfg0.N) 4
  exact congrArg (fun f => shapeCast S96x1x4608 f shapeCasts_S96x4608_S96x1x4608) (e.trans (final_eq m c))

/-- The reshape of `whole` of reshaped activations, at entry (r, 0, l): `entry` of row `r` and column `l`. -/
theorem whole_apply (x : FVec Ideal S96x1x16384 .bf16) (w : IVec S8192x4608 8) (s : FVec Ideal S128x4608 .bf16)
    (z : IVec S128x4608 8) (r : Fin 96) (o : Fin 1) (l : Fin 4608) :
    shapeCast S96x1x4608 (whole (shapeCast S96x16384 x shapeCasts_S96x1x16384_S96x16384) w s z)
        shapeCasts_S96x4608_S96x1x4608 (ix3 r o l)
      = entry (fun k => x (ix3 r 0 k)) (fun i => w (ix2 i l)) (fun g => s (ix2 g l)) (fun g => z (ix2 g l)) := by
  pointwise [whole]

/-- The result at entry (r, 0, l): `entry` of row `r` of the activations and column `l` of the weights. -/
theorem result_apply (c : Dev nD) (r : Fin 96) (o : Fin 1) (l : Fin 4608) :
    shapeCast S96x1x4608 (final m c) shapeCasts_S96x4608_S96x1x4608 (ix3 r o l)
      = entry (fun k => m ((c : Thread nD τ).loc main_arg0) (ix3 r 0 k)) (fun i => m ((c : Thread nD τ).loc main_arg1) (ix2 i l))
          (fun g => m ((c : Thread nD τ).loc main_arg2) (ix2 g l)) (fun g => m ((c : Thread nD τ).loc main_arg3) (ix2 g l)) := by
  unfold final
  rw [V_main_v0, V_main_arg1, V_main_arg2, V_main_arg3]
  exact whole_apply _ _ _ _ r o l

/-- A run of the kernel ends with the result at the whole result reshaped, and the arguments unchanged. -/
theorem run : θ_run defs (onTc (τ := τ) (main (F := Ideal))) ⟨m, fun _ => 0, ρ⟩ fun r => ∀ c : Dev nD,
      r.2.mem ((c : Thread nD τ).loc main_v2) = shapeCast S96x1x4608 (final m c) shapeCasts_S96x4608_S96x1x4608
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h.1 c).2 main_v2 (Pipeline.mem_restRefs_of main_v2 (by decide) (by decide))).trans
      (tail_main_v2 m c), h.2 c⟩) (θ_run_and (run_main m ρ) (unchanged m ρ))

end Cert.KernelIdeal.Array

end
-- ==== Proof.Reference.lean ====
/-
  What the reference computes, over the extended reals: entry (r, 0, l) of its result is `entry` of row `r` of the
  activations and column `l` of the packed weights, scales and zero points (`result_apply`).
-/
module

public import proofs.«01_k».proof.Proof.Gen.ReferenceIdeal.Run
public import proofs.«01_k».proof.Proof.Weight
public import Idealize.ShloMosaic.Lib.Pointwise
public import Idealize.ShloMosaic.Lib.KernelVsHost

@[expose] public section

set_option maxRecDepth 16384

noncomputable section

namespace Cert.ReferenceIdeal.Read

open Cert.ReferenceIdeal Cert.ReferenceIdeal.Gen Idealize.ShloMosaic Cert.Proof

/-- The reference's unpacked codes: low and high nibble of each byte on alternate rows, in groups of 128 rows. -/
def codes (w : IVec S8192x4608 8) : IVec S128x128x4608 32 :=
  shapeCast S128x128x4608 (concatenate S8192x2x4608 1
    [⟨S8192x1x4608, broadcastInDim S8192x1x4608 ![0, 2] bcast_S8192x4608_S8192x1x4608_0_2
      (andi (extui 32 w natLt_8_32) (broadcastInDim S8192x4608 ![] bcast_S_S8192x4608 (constantI S_ 32 15#32)))⟩,
     ⟨S8192x1x4608, broadcastInDim S8192x1x4608 ![0, 2] bcast_S8192x4608_S8192x1x4608_0_2
      (Host.shrsi (extui 32 w natLt_8_32) (broadcastInDim S8192x4608 ![] bcast_S_S8192x4608 (constantI S_ 32 4#32)))⟩]
    concatenates_S8192x1x4608_S8192x1x4608_S8192x2x4608_d1) shapeCasts_S8192x2x4608_S128x128x4608

/-- The reference's dequantized weight matrix. -/
def weights (w : IVec S8192x4608 8) (s : FVec Ideal S128x4608 .bf16) (z : IVec S128x4608 8) : FVec Ideal S16384x4608 .bf16 :=
  shapeCast S16384x4608
    (mulf
      (subf (sitofp .bf16 (codes w))
        (broadcastInDim S128x128x4608 ![0, 1, 2] bcast_S128x1x4608_S128x128x4608_0_1_2
          (broadcastInDim S128x1x4608 ![0, 2] bcast_S128x4608_S128x1x4608_0_2 (sitofp .bf16 (extui 32 z natLt_8_32)))))
      (broadcastInDim S128x128x4608 ![0, 1, 2] bcast_S128x1x4608_S128x128x4608_0_1_2
        (broadcastInDim S128x1x4608 ![0, 2] bcast_S128x4608_S128x1x4608_0_2 s)))
    shapeCasts_S128x128x4608_S16384x4608

/-- The reference's result: the activations times the dequantized weights, rounded. -/
def result (x : FVec Ideal S96x1x16384 .bf16) (w : IVec S8192x4608 8) (s : FVec Ideal S128x4608 .bf16)
    (z : IVec S128x4608 8) : FVec Ideal S96x1x4608 .bf16 :=
  truncf .bf16 (Host.dotGeneral dot_S96x1x16384_S16384x4608_S96x1x4608_2_0_01_1_n_n none x (weights w s z)
    : FVec Ideal S96x1x4608 .f32) bitsLt_bf16_f32

/-- A byte widened to 32 bits and read as a signed number is the byte's own value. -/
theorem toInt_setWidth (b : BitVec 8) : (b.setWidth 32).toInt = (b.toNat : ℤ) := by
  have := b.isLt
  rw [BitVec.toInt_setWidth]
  exact Int.bmod_eq_of_le (by omega) (by omega)

/-- Row `k`, column `l` of the reference's weights is the dequantized weight of the byte in row `k / 2` with the scale and
    zero point of group `k / 128`. -/
theorem weights_apply (w : IVec S8192x4608 8) (s : FVec Ideal S128x4608 .bf16) (z : IVec S128x4608 8) (k : Fin 16384)
    (l : Fin 4608) :
    weights w s z (ix2 k l) = dequant k (w (ix2 ⟨k / 2, by omega⟩ l)) (z (ix2 ⟨k / 128, by omega⟩ l))
      (s (ix2 ⟨k / 128, by omega⟩ l)) := by
  have hlt : k.val / 2 < 8192 := by omega
  have key (j : ℕ) (i : Fin 8192) (hj : j % 2 = k % 2) (hi : i.val = k / 2) (b : BitVec 8) (a : EReal) :
      ((((if j % 2 < 1 then IntOp.andi ((w (ix2 i l)).setWidth 32) 15#32
        else IntOp.shrsi .vector ((w (ix2 i l)).setWidth 32) 4#32).toInt : ℝ) : EReal) - (((b.setWidth 32).toInt : ℝ) : EReal)) * a
        = dequant k (w (ix2 ⟨k / 2, hlt⟩ l)) b a := by
    unfold dequant code
    obtain rfl : i = ⟨k / 2, hlt⟩ := Fin.ext hi
    rw [hj, toInt_setWidth]
    rfl
  unfold weights codes
  rw [hostShrsi_eq_shrsi]
  pointwise
  exact key (k % 128) ⟨k / 128 * 64 + k % 128 / 2, by omega⟩ (by omega) (by dsimp only; omega) _ _

/-- Entry (r, 0, l) of the reference's result is `entry` of row `r` of the activations and column `l` of the weights. -/
theorem result_apply (x : FVec Ideal S96x1x16384 .bf16) (w : IVec S8192x4608 8) (s : FVec Ideal S128x4608 .bf16)
    (z : IVec S128x4608 8) (r : Fin 96) (o : Fin 1) (l : Fin 4608) :
    result x w s z (ix3 r o l) = entry (fun k => x (ix3 r 0 k)) (fun i => w (ix2 i l)) (fun g => s (ix2 g l))
      (fun g => z (ix2 g l)) := by
  obtain rfl : o = 0 := Subsingleton.elim _ _
  unfold entry
  simp only [← weights_apply]
  pointwise [result]

end Cert.ReferenceIdeal.Read

end
-- ==== Proof.Equation.lean ====
/-
  The claims that need more than the generated frames: the reference's frame, and the equation between the kernel and the
  reference over the extended reals, both results being `entry` of the same row and column at every index.
-/
module

public import proofs.«01_k».proof.Defs
public import proofs.«01_k».proof.Proof.Array
public import proofs.«01_k».proof.Proof.Reference
public import Idealize.ShloMosaic.Lib.Quiescent

@[expose] public section

set_option maxRecDepth 16384

noncomputable section

namespace Cert.Proof

open Idealize.ShloMosaic Idealize.ShloMosaic.TcCoe Idealize.SL.Sem

/-- The reference ends, leaves its arguments as they were, and has no semaphore to leave set. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's whole result is the reference's, for the same arguments. -/
theorem whole_eq_result (x : FVec Ideal Cert.KernelIdeal.S96x1x16384 .bf16) (w : IVec Cert.KernelIdeal.S8192x4608 8)
    (s : FVec Ideal Cert.KernelIdeal.S128x4608 .bf16) (z : IVec Cert.KernelIdeal.S128x4608 8) :
    shapeCast Cert.KernelIdeal.S96x1x4608
        (Cert.KernelIdeal.Array.whole
          (shapeCast Cert.KernelIdeal.S96x16384 x Cert.KernelIdeal.Gen.shapeCasts_S96x1x16384_S96x16384) w s z)
        Cert.KernelIdeal.Gen.shapeCasts_S96x4608_S96x1x4608
      = Cert.ReferenceIdeal.Read.result x w s z := by
  funext i
  rw [eq_ix3 i]
  exact (Cert.KernelIdeal.Array.whole_apply x w s z _ _ _).trans (Cert.ReferenceIdeal.Read.result_apply x w s z _ _ _).symm

/-- Over the extended reals the kernel and the reference end with the same result. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => shapeCast Cert.KernelIdeal.S96x1x4608 (Cert.KernelIdeal.Array.final m c)
    Cert.KernelIdeal.Gen.shapeCasts_S96x4608_S96x1x4608, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := hagree c
  rw [h0, h1, h2, h3]
  dsimp only [Cert.KernelIdeal.Array.final]
  rw [Cert.KernelIdeal.Array.V_main_v0, Cert.KernelIdeal.Gen.V_main_arg1, Cert.KernelIdeal.Gen.V_main_arg2,
    Cert.KernelIdeal.Gen.V_main_arg3, whole_eq_result]
  rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- All five claims: the three frames, the idealized kernel being the kernel, and the algebraic equation. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
